-- ==== Defs.lean ====
def Pre_Kernel [hPre_in_table : Cert.Pre_in_table.Facts] (m : (ℓ : Loc Cert.Kernel.nD Cert.Kernel.τ Cert.Kernel.sig) → Buf (Elt Bits) ℓ) : Prop :=
  ∀ c : Dev Cert.Kernel.nD,
    (Cert.Pre_in_table.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_table : Cert.Pre_in_table.Facts] (m : (ℓ : Loc Cert.KernelIdeal.nD Cert.KernelIdeal.τ Cert.KernelIdeal.sig) → Buf (Elt Ideal) ℓ) : Prop :=
  ∀ c : Dev Cert.KernelIdeal.nD,
    (Cert.Pre_in_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_in_table : Cert.Pre_in_table.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_table.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_in_table : Cert.Pre_in_table.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_table : Cert.Pre_in_table.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] [hPre_in_table : Cert.Pre_in_table.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_table : Cert.Pre_in_table.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_table : Cert.Pre_in_table.Facts),
    quiescent_Kernel (hKernel := hKernel) (hPre_in_table := hPre_in_table)
    ∧ quiescent_KernelIdeal (hKernelIdeal := hKernelIdeal) (hPre_in_table := hPre_in_table)
    ∧ quiescent_ReferenceIdeal (hReferenceIdeal := hReferenceIdeal) (hPre_in_table := hPre_in_table)
    ∧ preserves_Kernel_KernelIdeal
    ∧ algebraic_KernelIdeal_ReferenceIdeal (hKernelIdeal := hKernelIdeal) (hReferenceIdeal := hReferenceIdeal) (hPre_in_table := hPre_in_table)
-- ==== Pre_in_table.lean ====
abbrev S4096x200 : Shape := ⟨2, ![4096, 200]⟩
abbrev S50000x128 : Shape := ⟨2, ![50000, 128]⟩
abbrev S_ : Shape := ⟨0, ![]⟩

class Facts : Prop where
  bcast_S_S4096x200 : S_.BroadcastsInDim S4096x200 (![] : Fin 0 → Fin S4096x200.rank)
  reducesTo_S4096x200_S_d0_1 : S4096x200.ReducesTo [0, 1] S_
  h_S_ : 0 < S_.numel

variable [Facts]

def fn {F : FTy → Type} [FloatOps F] (main_arg0 : IVec S4096x200 32) (main_arg1 : FVec F S50000x128 .f32) : IVec S_ 1 :=
  let main_c : IVec S_ 32 := constantI S_ 32 0#32
  let main_v0 : IVec S4096x200 32 := broadcastInDim S4096x200 ![] bcast_S_S4096x200 main_c
  let main_v1 : IVec S4096x200 1 := cmpi .sge main_arg0 main_v0
  let main_c_0 : IVec S_ 32 := constantI S_ 32 50000#32
  let main_v2 : IVec S4096x200 32 := broadcastInDim S4096x200 ![] bcast_S_S4096x200 main_c_0
  let main_v3 : IVec S4096x200 1 := cmpi .slt main_arg0 main_v2
  let main_v4 : IVec S4096x200 1 := andi main_v1 main_v3
  let main_c_1 : IVec S_ 1 := constantI S_ 1 1#1
  let main_v5 : IVec S_ 1 := (fun x v => Host.reduce IntOp.andi x v reducesTo_S4096x200_S_d0_1 h_S_) main_v4 main_c_1
  main_v5
-- ==== Kernel.lean ====
abbrev S4096x200 : Shape := ⟨2, ![4096, 200]⟩
abbrev S50000x128 : Shape := ⟨2, ![50000, 128]⟩
abbrev S819200 : Shape := ⟨1, ![819200]⟩
abbrev S819200x128 : Shape := ⟨2, ![819200, 128]⟩
abbrev S512 : Shape := ⟨1, ![512]⟩
abbrev S512x128 : Shape := ⟨2, ![512, 128]⟩
abbrev S_ : Shape := ⟨0, ![]⟩
abbrev S4096x200x128 : Shape := ⟨3, ![4096, 200, 128]⟩

abbrev nBuf : Table → Nat
  | .hbm => 5
  | .local .scVector .vmem => 2
  | _ => 0

abbrev bufTy : (tb : Table) → Fin (nBuf tb) → BufTy
  | .hbm, ⟨0, _⟩ => ⟨S4096x200, .i32⟩
  | .hbm, ⟨1, _⟩ => ⟨S50000x128, .f32⟩
  | .hbm, ⟨2, _⟩ => ⟨S819200, .i32⟩
  | .hbm, ⟨3, _⟩ => ⟨S819200x128, .f32⟩
  | .hbm, ⟨4, _⟩ => ⟨S4096x200x128, .f32⟩
  | .local .scVector .vmem, ⟨0, _⟩ => ⟨S512, .i32⟩
  | .local .scVector .vmem, ⟨1, _⟩ => ⟨S512x128, .f32⟩
  | _, _ => ⟨S4096x200, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v0_scv : Ref sig .scVector := ⟨.hbm, 2, rfl⟩
abbrev main_arg1_scv : Ref sig .scVector := ⟨.hbm, 1, rfl⟩
abbrev main_v1_scv : Ref sig .scVector := ⟨.hbm, 3, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c50_i32 : BitVec 32 := 50#32
  let v3 : BitVec 32 := Scalar.addi c0_i32_0 c50_i32
  let c1_i32 : BitVec 32 := 1#32
  ⟨c0_i32_0, v3, c1_i32⟩
def k0_off1 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c0_i32_0 : BitVec 32 := 0#32
  let c1_i32 : BitVec 32 := 1#32
  let arg8 : BitVec 32 := Scf.iv c0_i32_0 c1_i32 k0_t1
  let c512_i32 : BitVec 32 := 512#32
  let v4 : BitVec 32 := Scalar.muli arg8 c512_i32
  let v5 : BitVec 32 := Scalar.addi v2 v4
  ![v5.toNat]
def k0_off2 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c0_i32_0 : BitVec 32 := 0#32
  let c1_i32 : BitVec 32 := 1#32
  let arg8 : BitVec 32 := Scf.iv c0_i32_0 c1_i32 k0_t1
  let c512_i32 : BitVec 32 := 512#32
  let v4 : BitVec 32 := Scalar.muli arg8 c512_i32
  let v5 : BitVec 32 := Scalar.addi v2 v4
  let c0_i32_6_r1 : BitVec 32 := 0#32
  ![v5.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4096x200 : Shape := ⟨2, ![4096, 200]⟩
abbrev S50000x128 : Shape := ⟨2, ![50000, 128]⟩
abbrev S_ : Shape := ⟨0, ![]⟩
abbrev S4096x200x1 : Shape := ⟨3, ![4096, 200, 1]⟩
abbrev S1 : Shape := ⟨1, ![1]⟩
abbrev S1x1x1 : Shape := ⟨3, ![1, 1, 1]⟩
abbrev S4096x200x128 : Shape := ⟨3, ![4096, 200, 128]⟩

abbrev nBuf : Space → Nat
  | .hbm => 25
  | .vmem => 0
  | .smem => 0
  | _ => 0

abbrev bufTy : (tb : Table) → Fin (tcTables nBuf tb) → BufTy
  | .hbm, ⟨0, _⟩ => ⟨S4096x200, .i32⟩
  | .hbm, ⟨1, _⟩ => ⟨S50000x128, .f32⟩
  | .hbm, ⟨2, _⟩ => ⟨S_, .i32⟩
  | .hbm, ⟨3, _⟩ => ⟨S4096x200, .i32⟩
  | .hbm, ⟨4, _⟩ => ⟨S4096x200, .i1⟩
  | .hbm, ⟨5, _⟩ => ⟨S_, .i32⟩
  | .hbm, ⟨6, _⟩ => ⟨S4096x200, .i32⟩
  | .hbm, ⟨7, _⟩ => ⟨S4096x200, .i32⟩
  | .hbm, ⟨8, _⟩ => ⟨S4096x200, .i32⟩
  | .hbm, ⟨9, _⟩ => ⟨S4096x200x1, .i32⟩
  | .hbm, ⟨10, _⟩ => ⟨S1, .i32⟩
  | .hbm, ⟨11, _⟩ => ⟨S_, .i32⟩
  | .hbm, ⟨12, _⟩ => ⟨S4096x200x1, .i32⟩
  | .hbm, ⟨13, _⟩ => ⟨S4096x200x1, .i1⟩
  | .hbm, ⟨14, _⟩ => ⟨S1x1x1, .i32⟩
  | .hbm, ⟨15, _⟩ => ⟨S4096x200x1, .i32⟩
  | .hbm, ⟨16, _⟩ => ⟨S4096x200x1, .i1⟩
  | .hbm, ⟨17, _⟩ => ⟨S4096x200x1, .i1⟩
  | .hbm, ⟨18, _⟩ => ⟨S_, .i1⟩
  | .hbm, ⟨19, _⟩ => ⟨S4096x200, .i1⟩
  | .hbm, ⟨20, _⟩ => ⟨S4096x200x128, .f32⟩
  | .hbm, ⟨21, _⟩ => ⟨S4096x200x128, .i1⟩
  | .hbm, ⟨22, _⟩ => ⟨S_, .f32⟩
  | .hbm, ⟨23, _⟩ => ⟨S4096x200x128, .f32⟩
  | .hbm, ⟨24, _⟩ => ⟨S4096x200x128, .f32⟩
  | _, _ => ⟨S4096x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]
-- ==== Proof.KernelTile.lean ====
/-
  The vector-subcore task of `Kernel`: the task of SparseCore `c`, subcore `s` gathers rows
  `25600 * (2 s + c) … 25600 * (2 s + c) + 25599` of the flat output, 512 rows a trip over 50 trips. A trip copies its
  512 row numbers in, gathers the table's rows they name by one indirect stream, and copies the rows out.

  This module states what a task is handed and what it hands back (`tileIn`, `tileOut`), the values of the output
  (`gathered`), and proves the task between the two by one loop invariant (`inv`): before trip `n` the task's block of
  the output holds the gathered rows below row `512 n` of the block and the launch contents from there on (`partly`).
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.SparseCore.FromWhole
public import Idealize.ShloMosaic.Lib.StableHlo.Run
public import Idealize.ShloMosaic.Lib.Pipeline.Kit
public import Idealize.ShloMosaic.Lib.Pipeline.Value
public import Idealize.ShloMosaic.Lib.Tactic
public import proofs.«01_k».proof.Proof.Gen.Kernel
public import proofs.«01_k».proof.Proof.Gen.Kernel.Skeleton

@[expose] public section

noncomputable section

namespace Cert.Proof.KernelRun

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The launch's labels, configuration and ghost state -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's four semaphores are distinct or unscoped as the launch theorem asks, and no buffer is shared by tasks. -/
theorem launchFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

variable (m : (ℓ : Loc nD τ sig) → Buf (Elt F) ℓ)

/-- The row numbers as the caller gives them, `4096 × 200`; -/
abbrev iLoc (d : Dev nD) : Loc nD τ sig := (SparseCore.T d).loc main_arg0
/-- the table; -/
abbrev tLoc (d : Dev nD) : Loc nD τ sig := (SparseCore.T d).loc main_arg1
/-- the row numbers in one line; -/
abbrev vLoc (d : Dev nD) : Loc nD τ sig := (SparseCore.T d).loc main_v0
/-- the gathered rows, one per row number of the line; -/
abbrev oLoc (d : Dev nD) : Loc nD τ sig := (SparseCore.T d).loc main_v1
/-- the result. -/
abbrev rLoc (d : Dev nD) : Loc nD τ sig := (SparseCore.T d).loc main_v2

/-- The same arrays as a tile sees them, whole: the line of row numbers, -/
abbrev vV : Memref Cert.Kernel.sig Kind.scVector Space.hbm Cert.Kernel.S819200 EltTy.i32 := Memref.whole Cert.Kernel.main_v0_scv
/-- the table, -/
abbrev tV : Memref Cert.Kernel.sig Kind.scVector Space.hbm Cert.Kernel.S50000x128 EltTy.f32 := Memref.whole Cert.Kernel.main_arg1_scv
/-- the flat output; -/
abbrev oV : Memref Cert.Kernel.sig Kind.scVector Space.hbm Cert.Kernel.S819200x128 EltTy.f32 := Memref.whole Cert.Kernel.main_v1_scv
/-- and the tile's own buffers: one trip's row numbers, -/
abbrev sV : Memref Cert.Kernel.sig Kind.scVector Space.vmem Cert.Kernel.S512 EltTy.i32 := Memref.whole Cert.Kernel.cc0_scratch0
/-- and one trip's rows. -/
abbrev rV : Memref Cert.Kernel.sig Kind.scVector Space.vmem Cert.Kernel.S512x128 EltTy.f32 := Memref.whole Cert.Kernel.cc0_scratch1

/-! ## Values -/

/-- The index of the line at position `p`. -/
def lineIx (p : Fin 819200) : S819200.Idx := fun | 0 => p | ⟨_ + 1, h⟩ => absurd h (Nat.not_lt.2 (Nat.le_add_left _ _))
/-- The index of the table at row `r`, lane `k`. -/
def tableIx (r : Fin 50000) (k : Fin 128) : S50000x128.Idx :=
  fun | 0 => r | 1 => k | ⟨_ + 2, h⟩ => absurd h (Nat.not_lt.2 (Nat.le_add_left _ _))

/-- The line of row numbers: the caller's in row-major order. -/
def line (d : Dev nD) : Buf (Elt F) (vLoc d) := shapeCast S819200 (m (iLoc d)) shapeCasts_S4096x200_S819200

/-- A word as a row of the table (a word below 50000 is its own value). -/
def rowOf (v : BitVec 32) : Fin 50000 := ⟨v.toNat % 50000, Nat.mod_lt _ (by decide)⟩

/-- The gathered rows: row `p` is the table's row that position `p` of the line names. -/
def gathered (d : Dev nD) : Buf (Elt F) (oLoc d) :=
  fun (j : S819200x128.Idx) => m (tLoc d) (tableIx (rowOf (line m d (lineIx (j 0)))) (j 1))

/-- What the proof asks of the launch memory: every row number names a row of the table. -/
def InTable : Prop := ∀ (d : Dev nD) (j : S4096x200.Idx), (m (iLoc d) j).toNat < 50000

/-- Every word of the line names a row of the table. -/
theorem line_lt (h : InTable m) (d : Dev nD) (j : S819200.Idx) : (line m d j).toNat < 50000 := h d _

/-! ## What a task holds -/

/-- The output's block of 25600 rows of task `w`. -/
theorem odiv : 32 ∣ S819200x128.size 0 := ⟨25600, rfl⟩
abbrev oRect (w : Fin 32) : Rect S819200x128 := Rect.part (s := S819200x128) (a₀ := 0) odiv w
abbrev oBlk (w : Fin 32) : Finset S819200x128.Idx := (oRect w).set

/-- A row-and-lane index lies in block `w` exactly when its row is one of the block's 25600. -/
theorem mem_oBlk (w : Fin 32) (j : S819200x128.Idx) : j ∈ oBlk w ↔ 25600 * w.val ≤ (j 0).val ∧ (j 0).val < 25600 * w.val + 25600 := by
  unfold oBlk
  rw [Rect.mem_set_unit]
  constructor
  · intro h
    have := h 0
    simp [Shape.partIx, Shape.partSize] at this
    omega
  · intro h a
    match a with
    | 0 => simp [Shape.partIx, Shape.partSize]; omega
    | 1 => simp [Shape.partIx, Shape.partSize]; exact (j 1).isLt

/-- Task `w`'s share of an array every task reads: one of thirty-two. -/
abbrev share (w : Fin 32) : PosShare TreeShare := pieceOf fullShare 32 (by decide) w

abbrev lineShare (d : Dev nD) (w : Fin 32) : sProp 𝕄 := vLoc d ↦{share w} line m d
abbrev tableShare (d : Dev nD) (w : Fin 32) : sProp 𝕄 := tLoc d ↦{share w} m (tLoc d)
abbrev outBlk (d : Dev nD) (w : Fin 32) (f : Buf (Elt F) (oLoc d)) : sProp 𝕄 := oLoc d ↦[oBlk w]{fullShare} f

/-- A task is handed its shares of the line and the table and its block of the output at the launch contents, -/
abbrev tileIn (d : Dev nD) (w : Fin 32) : sProp 𝕄 := iprop(lineShare m d w ∗ tableShare m d w ∗ outBlk d w (m (oLoc d)))
/-- and hands the shares back with its block at the gathered rows. -/
abbrev tileOut (d : Dev nD) (w : Fin 32) : sProp 𝕄 := iprop(lineShare m d w ∗ tableShare m d w ∗ outBlk d w (gathered m d))

/-! ## The task -/

section Tile

variable (d : Dev nD) (L : grid0.Coords)

abbrev cV (L : grid0.Coords) : Fin τ.nSC := (L 0).castLE hcore0
abbrev jV (L : grid0.Coords) : Fin τ.nSub := (L 1).castLE hsub0

/-- The task's number: twice its subcore and its SparseCore. -/
def wid (L : grid0.Coords) : Fin 32 :=
  ⟨2 * (L 1).val + (L 0).val, by
    have h0 : (L 0).val < 2 := (L 0).isLt
    have h1 : (L 1).val < 16 := (L 1).isLt
    omega⟩

/-- The slices a trip addresses: its 512 row numbers, the whole table, its 512 rows of the output. -/
abbrev vSl (L : grid0.Coords) (k : Fin k0_t1_loop.trips) : Memref sig .scVector .hbm S512 .i32 :=
  (vV).slice (Rect.unit (s := S819200) (k0_off1 L k) S512.size (k0_off1_inb L k)) (fun _ => rfl)
abbrev tSl : Memref sig .scVector .hbm S50000x128 .f32 :=
  (tV).slice (Rect.unit (s := S50000x128) ![0, 0] S50000x128.size inb_S50000x128_S50000x128_0_0) (fun _ => rfl)
abbrev oSl (L : grid0.Coords) (k : Fin k0_t1_loop.trips) : Memref sig .scVector .hbm S512x128 .f32 :=
  (oV).slice (Rect.unit (s := S819200x128) (k0_off2 L k) S512x128.size (k0_off2_inb L k)) (fun _ => rfl)

/-- The first row of the task's block, and of trip `n`'s rows. -/
abbrev base (L : grid0.Coords) (n : ℕ) : ℕ := 25600 * (wid L).val + 512 * n

/-- Where trip `n` of the task starts: 25600 rows a task, 512 a trip. -/
theorem base_eq (n : ℕ) : base L n = 25600 * (wid L).val + 512 * n := rfl

/-- The trip reads its row numbers from row `base` of the line on. -/
theorem off1_val (k : Fin k0_t1_loop.trips) : k0_off1 L k 0 = base L k.val := by
  rw [k0_off1_eq]; show 51200 * (L 1).val + 25600 * (L 0).val + 512 * k.val = 25600 * (2 * (L 1).val + (L 0).val) + 512 * k.val; omega
/-- The trip writes its rows from row `base` of the output on, -/
theorem off2_zero (k : Fin k0_t1_loop.trips) : k0_off2 L k 0 = base L k.val := by
  rw [k0_off2_eq]; show 51200 * (L 1).val + 25600 * (L 0).val + 512 * k.val = 25600 * (2 * (L 1).val + (L 0).val) + 512 * k.val; omega
/-- and from lane 0 on. -/
theorem off2_one (k : Fin k0_t1_loop.trips) : k0_off2 L k 1 = 0 := by rw [k0_off2_eq]; rfl

/-- The loop has 50 trips. -/
theorem trip_lt (k : Fin k0_t1_loop.trips) : k.val < 50 := Nat.lt_of_lt_of_le k.isLt k0_t1_abs.2.1

/-- A trip's elements of the output: those of its 512 rows. -/
theorem mem_oSl (k : Fin k0_t1_loop.trips) (j : S819200x128.Idx) :
    j ∈ ((oSl L k).view.set : Finset S819200x128.Idx) ↔ base L k.val ≤ (j 0).val ∧ (j 0).val < base L k.val + 512 := by
  have e : ((oSl L k).view.set : Finset S819200x128.Idx) = (Rect.unit (s := S819200x128) (k0_off2 L k) S512x128.size (k0_off2_inb L k)).set :=
    View.set_slice_whole _ _
  rw [e, Rect.mem_set_unit]
  constructor
  · intro h
    have := h 0
    rw [off2_zero] at this
    exact this
  · intro h a
    match a with
    | 0 => rw [off2_zero]; exact h
    | 1 => rw [off2_one]; exact ⟨Nat.zero_le _, (Nat.zero_add _).symm ▸ (j 1).isLt⟩

/-- A trip's elements are in the task's block. -/
theorem oSl_sub (k : Fin k0_t1_loop.trips) : ((oSl L k).view.set : Finset S819200x128.Idx) ⊆ oBlk (wid L) := by
  intro j hj
  have h := (mem_oSl L k j).mp hj
  have hk := trip_lt k
  rw [base_eq] at h
  exact (mem_oBlk _ _).mpr ⟨by omega, by omega⟩

/-- The output before trip `n`: the gathered rows below the trip's first row, the launch contents from there on. -/
def partly (n : ℕ) : Buf (Elt F) (oLoc d) :=
  fun (j : S819200x128.Idx) => if (j 0).val < base L n then gathered m d j else m (oLoc d) j

/-- Off a trip's rows, the block is the same before and after the trip. -/
theorem partly_rest (k : Fin k0_t1_loop.trips) (j : S819200x128.Idx) (hj : j ∉ ((oSl L k).view.set : Finset S819200x128.Idx)) :
    partly m d L k.val j = partly m d L (k.val + 1) j := by
  have h : ¬(base L k.val ≤ (j 0).val ∧ (j 0).val < base L k.val + 512) := fun h => hj ((mem_oSl L k j).mpr h)
  unfold partly
  have e0 := base_eq L k.val
  have e1 := base_eq L (k.val + 1)
  by_cases h1 : (j 0).val < base L k.val
  · rw [if_pos h1, if_pos (by omega)]
  · rw [if_neg h1, if_neg (by omega)]

/-- Before the first trip the block is at the launch contents; -/
theorem partly_zero (j : S819200x128.Idx) (hj : j ∈ oBlk (wid L)) : partly m d L 0 j = m (oLoc d) j := by
  have := (mem_oBlk _ _).mp hj
  have e := base_eq L 0
  unfold partly
  rw [if_neg (by omega)]

/-- after the last it is at the gathered rows. -/
theorem partly_last (j : S819200x128.Idx) (hj : j ∈ oBlk (wid L)) : partly m d L 50 j = gathered m d j := by
  have := (mem_oBlk _ _).mp hj
  have e := base_eq L 50
  unfold partly
  rw [if_pos (by omega)]

/-- The row numbers a trip reads: positions `base …` of the line. -/
theorem vSl_read (k : Fin k0_t1_loop.trips) (x : S512.Idx) :
    (vSl L k).view.read (Elt F) (line m d) x = line m d (lineIx ⟨base L k.val + (x 0).val, by
      have := trip_lt k; have h : (x 0).val < 512 := (x 0).isLt; have := (wid L).isLt; rw [base_eq]; omega⟩) := by
  refine (View.read_apply _ _).trans ((cast_eq _ _).trans (congrArg (line m d) (funext fun a => Fin.ext ?_)))
  match a with
  | 0 =>
    show k0_off1 L k 0 + 1 * (x 0).val = base L k.val + (x 0).val
    rw [off1_val, Nat.one_mul]

/-- The row numbers a trip's stream reads are rows of the table. -/
theorem stream_inb (h : InTable m) (k : Fin k0_t1_loop.trips) (fs : Buf (Elt F) ((V d (cV L) (jV L)).loc cc0_scratch0)) (pay : S512.Idx → Elt F .i32)
    (hpay : pay = (vSl L k).view.read (Elt F) (line m d)) :
    ∀ x, ((sV).view.read (Elt F) (View.write (Elt F) (sV).view fs pay Finset.univ) x).toNat < S50000x128.size gathers_S50000x128_S512x128.axis := by
  subst hpay; intro x
  rw [View.write_whole_univ]
  simp only [Memref.view_whole, View.read_whole]
  rw [vSl_read]
  exact line_lt m h d _

/-- The row the stream reads for its `i`-th row number: the one position `base + i` of the line names. -/
theorem stream_row (h : InTable m) (k : Fin k0_t1_loop.trips) (fs : Buf (Elt F) ((V d (cV L) (jV L)).loc cc0_scratch0)) (pay : S512.Idx → Elt F .i32)
    (hpay : pay = (vSl L k).view.read (Elt F) (line m d)) (hn : S512.numel = 512)
    (hin : ∀ x, ((sV).view.read (Elt F) (View.write (Elt F) (sV).view fs pay Finset.univ) x).toNat < 50000) (i : Fin 512) (p : Fin 819200)
    (hp : p.val = base L k.val + i.val) :
    (SparseCore.rows ((sV).view.read (Elt F) (View.write (Elt F) (sV).view fs pay Finset.univ)) hn hin i).val
      = (rowOf (line m d (lineIx p))).val := by
  have e : ((S512.rowMajor.symm (i.cast hn.symm)) 0).val = i.val := by
    rw [← Shape.rowMajor_val_one, Equiv.apply_symm_apply]; rfl
  have e' : ((sV).view.read (Elt F) (View.write (Elt F) (sV).view fs pay Finset.univ)) (S512.rowMajor.symm (i.cast hn.symm)) = line m d (lineIx p) := by
    subst hpay
    rw [View.write_whole_univ]
    simp only [Memref.view_whole, View.read_whole]
    rw [vSl_read]
    exact congrArg (fun q => line m d (lineIx q)) (Fin.ext ((congrArg (base L k.val + ·) e).trans hp.symm))
  show (((sV).view.read (Elt F) (View.write (Elt F) (sV).view fs pay Finset.univ)) (S512.rowMajor.symm (i.cast hn.symm)) : BitVec 32).toNat = _
  rw [e']
  exact (Nat.mod_eq_of_lt (line_lt m h d (lineIx p))).symm

/-- What a trip writes to its rows of the output is the gathered rows: element `x` of the row buffer after the stream is
    the table's at the row that the trip's row number for `x` names. -/
theorem stream_val (h : InTable m) (k : Fin k0_t1_loop.trips) (fs : Buf (Elt F) ((V d (cV L) (jV L)).loc cc0_scratch0)) (pay : S512.Idx → Elt F .i32)
    (hpay : pay = (vSl L k).view.read (Elt F) (line m d)) (hn) (hin) (x : S512x128.Idx) :
    SparseCore.gatherPayload gathers_S50000x128_S512x128 ((tSl).view.read (Elt F) (m (tLoc d)))
        (SparseCore.rows ((sV).view.read (Elt F) (View.write (Elt F) (sV).view fs pay Finset.univ)) hn hin) x
      = gathered m d ((oSl L k).view.emb x) := by
  unfold SparseCore.gatherPayload gathered
  refine (View.read_apply _ _).trans ((cast_eq _ _).trans (congrArg (m (tLoc d)) (funext fun a => Fin.ext ?_)))
  match a with
  | 0 =>
    show 0 + 1 * (gathers_S50000x128_S512x128.idx _ x gathers_S50000x128_S512x128.axis).val = _
    rw [Shape.Gathers.idx_axis, Nat.zero_add, Nat.one_mul]
    refine stream_row m d L h k fs pay hpay hn hin (x 0) _ ?_
    show k0_off2 L k 0 + 1 * (x 0).val = _
    rw [off2_zero, Nat.one_mul]
  | 1 =>
    show 0 + 1 * (gathers_S50000x128_S512x128.idx _ x 1).val = k0_off2 L k 1 + 1 * (x 1).val
    rw [Shape.Gathers.idx_of_ne _ _ _ _ (by decide), off2_one]
    rfl

/-- On a trip's rows, the output after the trip's write-out is the gathered rows, as after the trip. -/
theorem out_trip (k : Fin k0_t1_loop.trips) (f : Buf (Elt F) (oLoc d)) (pay : S512x128.Idx → Elt F .f32)
    (hpay : ∀ x, pay x = gathered m d ((oSl L k).view.emb x)) (j : S819200x128.Idx) (hj : j ∈ ((oSl L k).view.set : Finset S819200x128.Idx)) :
    (oSl L k).view.writes (Elt F) f [⟨Rect.whole S512x128, pay⟩] j = partly m d L (k.val + 1) j := by
  have hr : ∀ x, (oSl L k).view.writes (Elt F) f [⟨Rect.whole S512x128, pay⟩] ((oSl L k).view.emb x) = pay x := fun x =>
    ((View.read_apply _ _).trans (cast_eq _ _)).symm.trans (congrFun (View.read_writes_whole _ _ _) x)
  obtain ⟨x, -, rfl⟩ := Finset.mem_map.mp hj
  rw [hr, hpay]
  have h := (mem_oSl L k _).mp hj
  unfold partly
  have e0 := base_eq L k.val
  have e1 := base_eq L (k.val + 1)
  rw [if_pos (by omega)]

variable [FloatOps F]

/-- Holding the line as the tile sees it is holding the array; -/
theorem pts_vV (q : PosShare TreeShare) (f : Buf (Elt F) (vLoc d)) :
    ((vV).view.loc (V d (cV L) (jV L)) ↦{q} f : sProp 𝕄) = vLoc d ↦{q} f := rfl
/-- likewise the table, -/
theorem pts_tV (q : PosShare TreeShare) (f : Buf (Elt F) (tLoc d)) :
    ((tSl).view.loc (V d (cV L) (jV L)) ↦{q} f : sProp 𝕄) = tLoc d ↦{q} f := rfl
/-- likewise a trip's rows of the output, -/
theorem pts_oSl (k : Fin k0_t1_loop.trips) (f : Buf (Elt F) (oLoc d)) :
    ((oSl L k).view.loc (V d (cV L) (jV L)) ↦[(oSl L k).view.set]{fullShare} f : sProp 𝕄)
      = oLoc d ↦[((oSl L k).view.set : Finset S819200x128.Idx)]{fullShare} f := rfl
/-- likewise the buffer of row numbers, -/
theorem pts_sV (f : Buf (Elt F) ((V d (cV L) (jV L)).loc cc0_scratch0)) :
    ((sV).view.loc (V d (cV L) (jV L)) ↦{fullShare} f : sProp 𝕄) = (V d (cV L) (jV L)).loc cc0_scratch0 ↦{fullShare} f := rfl
/-- likewise the buffer of rows. -/
theorem pts_rV (f : Buf (Elt F) ((V d (cV L) (jV L)).loc cc0_scratch1)) :
    ((rV).view.loc (V d (cV L) (jV L)) ↦{fullShare} f : sProp 𝕄) = (V d (cV L) (jV L)).loc cc0_scratch1 ↦{fullShare} f := rfl

/-- The loop's invariant: the shares of the line and the table, the block of the output partly gathered, the two
    scratch buffers at some contents, the three semaphores at zero, the waits recorded so far. -/
def inv (O : CellTallies nD τ sig (HIx 1)) (W : Waits sig (HIx 1)) (n : Nat) (_ : Unit) : sProp 𝕄 :=
  iprop(Transfers.MayWaits (V d (cV L) (jV L)) (default : HIx 1) O
    ∗ lineShare m d (wid L) ∗ tableShare m d (wid L) ∗ outBlk d (wid L) (partly m d L n)
    ∗ (∃ f, (sV).view.loc (V d (cV L) (jV L)) ↦{fullShare} f) ∗ (∃ f, (rV).view.loc (V d (cV L) (jV L)) ↦{fullShare} f)
    ∗ semVal (V d (cV L) (jV L), SemLoc.dma cc0_scratch2.sem) 0 ∗ semVal (V d (cV L) (jV L), SemLoc.dma cc0_scoped0.sem) 0
    ∗ semVal (V d (cV L) (jV L), SemLoc.dma cc0_scoped1.sem) 0
    ∗ ∃ W', ⌜∀ p ∈ W', p ∈ W ∨ p.2 = none⌝ ∗ owes (V d (cV L) (jV L)) O W')

set_option maxHeartbeats 4000000 in
/-- One trip: the row numbers in, the stream of the rows they name, the rows out. -/
theorem trip (h : InTable m) (O : CellTallies nD τ sig (HIx 1)) (W : Waits sig (HIx 1)) (k : Fin k0_t1_loop.trips) (u : Unit) :
    inv m d L O W k.val u
      ⊢ wp frame (wpE (defs₀ (F := F)) 𝒱₀ (V d (cV L) (jV L)) none) Set.univ
          (k0_t1_body L vV (Memref.isWhole_whole _) tV (Memref.isWhole_whole _) oV (Memref.isWhole_whole _)
            sV (Memref.isWhole_whole _) rV (Memref.isWhole_whole _) cc0_scratch2 cc0_scoped0 cc0_scoped1 k u)
          (inv m d L O W (k.val + 1)) := by
  unfold k0_t1_body inv
  iintro ⟨#Hmw, Hv, Ht, Ho, ⟨%fs, Hs⟩, ⟨%fr, Hr⟩, Hsem, HsemA, HsemB, %W', %hW', HO⟩
  ihave Ho' := (pointsTo_split_subset (q := fullShare) (f := partly m d L k.val) (oSl_sub L k)).1 $$ Ho
  icases Ho' with ⟨Ho, Hrest⟩
  ihave Hv' := (Entails.of_eq (pts_vV (F := F) d L _ _).symm) $$ Hv
  ihave Ht' := (Entails.of_eq (pts_tV (F := F) d L _ _).symm) $$ Ht
  ihave Ho' := (Entails.of_eq (pts_oSl (F := F) d L k _).symm) $$ Ho
  sl_exec
  have hN : ∀ h : S50000x128.Gathers 0 S512x128, ∑ j, ((rV).slice (S512x128.rowRect h.axis' j) (S512x128.stride_rowRect h.axis' j)).view.dmaCredit
      = (rV).view.dmaCredit := fun h => SparseCore.sum_rowCredit_eq_dmaCredit rV h.axis' (fun _ => rfl)
  iapply (SparseCore.wp_gatherFromWhole countersEmb 𝒱₀ (V d (cV L) (jV L)) none (hg := gathers_S50000x128_S512x128) (default : HIx 1)
      (rV).view.dmaCredit (hN _) (by decide) (stream_inb m d L h k fs _ rfl)) $$ [Ht' Hr Hs Hsem]
  · isplitl [Ht']; · iexact Ht'
    isplitl [Hr]; · iexact Hr
    isplitl [Hs]; · iexact Hs
    iexact Hsem
  iintro Hfl
  sl_exec
  iapply (Transfers.wp_waitLocalO countersEmb 𝒱₀ (V d (cV L) (jV L)) none (default : HIx 1) (rfl : (rV).view.dmaCredit = _)) $$ [Hfl HO]
  · isplitl [Hfl]; · iexact Hfl
    isplitl [HO]; · iexact HO
    iapply (Transfers.MayWaits.elim (SemLoc.dma cc0_scratch2.sem)) $$ Hmw
  iintro ⟨⟨Hr, Ht', Hs⟩, Hsem, HO⟩
  sl_exec
  sl_step
  ihave Ho1 := (Entails.of_eq (pts_oSl (F := F) d L k _)) $$ Ho'
  ihave Ho2 := (Entails.of_eq (pointsTo_congr (q := fullShare) fun j hj => out_trip m d L k (partly m d L k.val) _
    (fun x => (congrFun (View.read_write_univ _ _) x).trans (stream_val m d L h k fs _ rfl _ _ x)) j hj)) $$ Ho1
  ihave Hrest' := (Entails.of_eq (pointsTo_congr (q := fullShare) fun j hj => partly_rest m d L k j (Finset.mem_sdiff.mp hj).2)) $$ Hrest
  ihave Hblk := (pointsTo_split_subset (q := fullShare) (f := partly m d L (k.val + 1)) (oSl_sub L k)).2 $$ [Ho2 Hrest']
  · isplitl [Ho2] <;> iassumption
  isplitr; · iexact Hmw
  isplitl [Hv']; · iapply (Entails.of_eq (pts_vV (F := F) d L _ _)); iexact Hv'
  isplitl [Ht']; · iapply (Entails.of_eq (pts_tV (F := F) d L _ _)); iexact Ht'
  isplitl [Hblk]; · iexact Hblk
  isplitl [Hs]; · iexists _; iexact Hs
  isplitl [Hr]; · iexists _; iexact Hr
  isplitl [Hsem]; · iexact Hsem
  isplitl [HsemA]; · iexact HsemA
  isplitl [HsemB]; · iexact HsemB
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact hW' p hp

/-! ## The task's own buffers and semaphores -/

abbrev aCell (d : Dev nD) (c : Fin τ.nSC) (i : Fin τ.nSub) : GSem nD τ sig := (V d c i, .dma cc0_scratch2.sem)
abbrev bCell (d : Dev nD) (c : Fin τ.nSC) (i : Fin τ.nSub) : GSem nD τ sig := (V d c i, .dma cc0_scoped0.sem)
abbrev cCell (d : Dev nD) (c : Fin τ.nSC) (i : Fin τ.nSub) : GSem nD τ sig := (V d c i, .dma cc0_scoped1.sem)

omit [FloatOps F] in
/-- The stream's semaphore and the two copies' are among the subcore's own, beside the rest. -/
theorem ownSems_three :
    (ownSems0 (V d (cV L) (jV L)) : sProp 𝕄)
      = iprop(semVal (aCell d (cV L) (jV L)) 0 ∗ semVal (bCell d (cV L) (jV L)) 0 ∗ semVal (cCell d (cV L) (jV L)) 0
          ∗ bigSep ((((ownCells (V d (cV L) (jV L))).erase (aCell d (cV L) (jV L))).erase (bCell d (cV L) (jV L))).erase (cCell d (cV L) (jV L)))
              fun g => semVal g 0) := by
  have ha : aCell d (cV L) (jV L) ∈ ownCells (V d (cV L) (jV L)) :=
    mem_ownCells.mpr ⟨rfl, by show (SemLoc.dma cc0_scratch2.sem : SemLoc sig).isScoped .scVector = true; decide⟩
  have hb : bCell d (cV L) (jV L) ∈ ownCells (V d (cV L) (jV L)) :=
    mem_ownCells.mpr ⟨rfl, by show (SemLoc.dma cc0_scoped0.sem : SemLoc sig).isScoped .scVector = true; decide⟩
  have hc : cCell d (cV L) (jV L) ∈ ownCells (V d (cV L) (jV L)) :=
    mem_ownCells.mpr ⟨rfl, by show (SemLoc.dma cc0_scoped1.sem : SemLoc sig).isScoped .scVector = true; decide⟩
  have hba : bCell d (cV L) (jV L) ≠ aCell d (cV L) (jV L) := fun e =>
    absurd (Prod.mk.inj e).2 (show (SemLoc.dma cc0_scoped0.sem : SemLoc sig) ≠ SemLoc.dma cc0_scratch2.sem by decide)
  have hca : cCell d (cV L) (jV L) ≠ aCell d (cV L) (jV L) := fun e =>
    absurd (Prod.mk.inj e).2 (show (SemLoc.dma cc0_scoped1.sem : SemLoc sig) ≠ SemLoc.dma cc0_scratch2.sem by decide)
  have hcb : cCell d (cV L) (jV L) ≠ bCell d (cV L) (jV L) := fun e =>
    absurd (Prod.mk.inj e).2 (show (SemLoc.dma cc0_scoped1.sem : SemLoc sig) ≠ SemLoc.dma cc0_scoped0.sem by decide)
  unfold SparseCore.Cfg.ownSems0
  rw [SparseCore.bigSep_erase' ha, SparseCore.bigSep_erase' (Finset.mem_erase.mpr ⟨hba, hb⟩),
    SparseCore.bigSep_erase' (Finset.mem_erase.mpr ⟨hcb, Finset.mem_erase.mpr ⟨hca, hc⟩⟩)]

omit [FloatOps F] in
/-- The buffer of row numbers and the buffer of rows are among the subcore's own, at some contents, beside the rest. -/
theorem ownBufs_two :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  have hs : (Proc.scVector (cV L) (jV L)).devRef cc0_scratch0 ∈ ownRefs (τ := τ) (.scVector (cV L) (jV L)) :=
    SparseCore.Cfg.mem_ownRefs_of_owner rfl
  have hr : (Proc.scVector (cV L) (jV L)).devRef cc0_scratch1 ∈ ownRefs (τ := τ) (.scVector (cV L) (jV L)) :=
    SparseCore.Cfg.mem_ownRefs_of_owner rfl
  have hrs : (Proc.scVector (cV L) (jV L)).devRef cc0_scratch1 ≠ (Proc.scVector (cV L) (jV L)).devRef cc0_scratch0 := fun e =>
    absurd (Proc.devRef_injective _ e) (show (cc0_scratch1 : Ref sig .scVector) ≠ cc0_scratch0 by decide)
  unfold SparseCore.Cfg.ownBufs
  refine (SparseCore.bigSep_erase' hs).trans ?_
  rw [SparseCore.bigSep_erase' (Finset.mem_erase.mpr ⟨hrs, hr⟩)]

/-! ## The task -/

/-- The loop's trip count, computed from its bounds and step. -/
theorem trips_eq : Scf.trips k0_t1_loop.lb k0_t1_loop.ub k0_t1_loop.st = 50 := by decide

set_option maxHeartbeats 4000000 in
/-- The task: handed its shares and its block at the launch contents, it ends with its block at the gathered rows. -/
theorem tile_body (hF : (K (F := F)).Facts) (h : InTable m) (O : CellTallies nD τ sig (HIx 1)) (W : Waits sig (HIx 1)) (hO : ∀ g, O g none = 0) :
    iprop(levAts (K (F := F)).L (K (F := F)).lev ∗ emp ∗ tileIn m d (wid L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_gather_kernel L vV (Memref.isWhole_whole _) tV (Memref.isWhole_whole _) oV (Memref.isWhole_whole _)
            sV (Memref.isWhole_whole _) rV (Memref.isWhole_whole _) cc0_scratch2 cc0_scoped0 cc0_scoped1)
          fun _ => iprop(tileOut m d (wid L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_gather_kernel_eq_skeleton]; unfold cc0_gather_kernel_skel
  rw [(K (F := F)).scopedBufs_V hF d (cV L) (jV L), SparseCore.Cfg.scopedSems0_V (Val := Elt F) d (cV L) (jV L), ownSems_three, ownBufs_two]
  iintro ⟨#Hlv, -, ⟨Hv, Ht, Ho⟩, ⟨⟨%fs, Hs⟩, ⟨%fr, Hr⟩, Hbufs⟩, ⟨HsemA, HsemB, HsemC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hs' := (Entails.of_eq (pts_sV (F := F) d L _).symm) $$ Hs
  ihave Hr' := (Entails.of_eq (pts_rV (F := F) d L _).symm) $$ Hr
  ihave Ho' := (Entails.of_eq (pointsTo_congr (q := fullShare) fun j hj => (partly_zero m d L j hj).symm)) $$ Ho
  sl_for (inv m d L O W) $$ [Hv Ht Ho' Hs' Hr' HsemA HsemB HsemC HO]
  case region => intro k u; exact trip m d L h O W k u
  · unfold inv
    isplitr; · iexact Hmw
    isplitl [Hv]; · iexact Hv
    isplitl [Ht]; · iexact Ht
    isplitl [Ho']; · iexact Ho'
    isplitl [Hs']; · iexists _; iexact Hs'
    isplitl [Hr']; · iexists _; iexact Hr'
    isplitl [HsemA]; · iexact HsemA
    isplitl [HsemB]; · iexact HsemB
    isplitl [HsemC]; · iexact HsemC
    iexists W; isplitr
    · ipureintro; exact fun p hp => .inl hp
    · iexact HO
  iintro %_ HI
  rw [trips_eq]
  unfold inv
  icases HI with ⟨-, Hv, Ht, Ho, ⟨%fs', Hs⟩, ⟨%fr', Hr⟩, HsemA, HsemB, HsemC, %W', %hW', HO⟩
  ihave Ho' := (Entails.of_eq (pointsTo_congr (q := fullShare) fun j hj => partly_last m d L j hj)) $$ Ho
  sl_exec
  sl_step
  isplitl [Hv Ht Ho']
  · isplitl [Hv]; · iexact Hv
    isplitl [Ht] <;> iassumption
  isplitl [Hs Hr Hbufs]
  · isplitl [Hs]; · iexists _; iexact Hs
    isplitl [Hr]; · iexists _; iexact Hr
    iexact Hbufs
  isplitl [HsemA HsemB HsemC Hsems]
  · isplitl [HsemA]; · iexact HsemA
    isplitl [HsemB]; · iexact HsemB
    isplitl [HsemC]; · iexact HsemC
    iexact Hsems
  iexists W'; isplitr
  · ipureintro; exact hW'
  · iexact HO

end Tile

end Cert.Proof.KernelRun

end
-- ==== Proof.KernelRun.lean ====
/-
  The run of `Kernel`: `@main` puts the row numbers in one line, launches the thirty-two tasks of `KernelTile`, and
  shapes the rows they gathered as the result. The run ends with the result at the gathered rows (`result`), the row
  numbers and the table at their launch contents, and every semaphore at zero (`run_main`).
-/
module

public import proofs.«01_k».proof.Proof.KernelTile

@[expose] public section

noncomputable section

namespace Cert.Proof.KernelRun

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.StableHlo (held held_split held_sdiff_result wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-! ## What the call hands over -/

/-- The number of the task on SparseCore `c`, subcore `i`. -/
def taskNo (c : Fin 2) (i : Fin 16) : Fin 32 := ⟨2 * i.val + c.val, by omega⟩

/-- The thirty-two tasks, by SparseCore and subcore. -/
theorem tasks_split (Φ : Fin 32 → sProp 𝕄) :
    bigSep Finset.univ Φ = bigSep Finset.univ fun c : Fin 2 => bigSep Finset.univ fun i : Fin 16 => Φ (taskNo c i) := by
  rw [bigSep_univ_equiv (finProdFinEquiv : Fin 16 × Fin 2 ≃ Fin (16 * 2)) (fun w : Fin (16 * 2) => Φ w), bigSep_univ_prod, bigSep_univ_comm]
  exact bigSep_congr fun c _ => bigSep_congr fun i _ => congrArg Φ (Fin.ext (Nat.add_comm _ _))

/-- Each SparseCore's sequencer is handed what its sixteen tasks are, each task its own. -/
def P : (K (F := F)).Pay (nD := nD) (Val := Elt F) (Name := ℕ) (U := UU) where
  st := fun q d c => match q with | 0 => bigSep Finset.univ fun i : Fin 16 => tileIn m d (taskNo c i)
  dn := fun q d c => match q with | 0 => bigSep Finset.univ fun i : Fin 16 => tileOut m d (taskNo c i)
  go := fun q d c i => match q with | 0 => tileIn m d (taskNo c i)
  td := fun q d c i => match q with | 0 => tileOut m d (taskNo c i)
  x := fun _ _ => iprop(emp)

instance P_storable : (P (F := F) m).IsStorable where
  st q d c := match q with
    | 0 => (inferInstance : BI.Storable (upEmb : UEmb _ 𝕄) (bigSep Finset.univ fun i : Fin 16 => tileIn m d (taskNo c i)))
  dn q d c := match q with
    | 0 => (inferInstance : BI.Storable (upEmb : UEmb _ 𝕄) (bigSep Finset.univ fun i : Fin 16 => tileOut m d (taskNo c i)))
  go q d c i := match q with
    | 0 => (inferInstance : BI.Storable (upEmb : UEmb _ 𝕄) (tileIn m d (taskNo c i)))
  td q d c i := match q with
    | 0 => (inferInstance : BI.Storable (upEmb : UEmb _ 𝕄) (tileOut m d (taskNo c i)))

/-- A sequencer splits what it is handed among its sixteen tasks and gives back what they hand back. -/
theorem vecSplit : (K (F := F)).VecSplit' (P m) 0 := by
  intro d c
  show (bigSep Finset.univ fun i : Fin 16 => tileIn m d (taskNo c i)) ⊢ |={Set.univ}=> iprop(
      (bigSep Finset.univ fun i : Fin 16 => tileIn m d (taskNo c i))
      ∗ ((bigSep Finset.univ fun i : Fin 16 => tileOut m d (taskNo c i)) -∗ bigSep Finset.univ fun i : Fin 16 => tileOut m d (taskNo c i)))
  iintro H; imodintro
  isplitl [H]; · iexact H
  iintro H; iexact H

/-! ## The arrays split among the tasks and join -/

/-- The line is the tasks' 32 read shares of it; -/
theorem line_shares (d : Dev nD) (f : Buf (Elt F) (vLoc d)) :
    (vLoc d ↦{fullShare} f : sProp 𝕄) = bigSep Finset.univ fun w : Fin 32 => vLoc d ↦{share w} f :=
  pointsTo_piecesOf _ f (by decide) fullShare
/-- so is the table; -/
theorem table_shares (d : Dev nD) (f : Buf (Elt F) (tLoc d)) :
    (tLoc d ↦{fullShare} f : sProp 𝕄) = bigSep Finset.univ fun w : Fin 32 => tLoc d ↦{share w} f :=
  pointsTo_piecesOf _ f (by decide) fullShare
/-- the output is the tasks' 32 blocks of 25600 rows. -/
theorem out_blocks (d : Dev nD) (f : Buf (Elt F) (oLoc d)) :
    (oLoc d ↦{fullShare} f : sProp 𝕄) = bigSep Finset.univ fun w : Fin 32 => outBlk d w f := by
  rw [← pointsTo_biUnion Finset.univ (ℓ := oLoc d) oBlk (fun i _ j _ h => Rect.part_disjoint odiv h), Rect.biUnion_part odiv]

/-- The line, the table and the output whole, the output at `f`, are the tasks' shares and blocks. -/
theorem arrays_tasks (d : Dev nD) (f : Buf (Elt F) (oLoc d)) :
    (iprop((vLoc d ↦{fullShare} line m d) ∗ (tLoc d ↦{fullShare} m (tLoc d)) ∗ oLoc d ↦{fullShare} f) : sProp 𝕄)
      = bigSep Finset.univ fun c : Fin 2 => bigSep Finset.univ fun i : Fin 16 =>
          iprop(lineShare m d (taskNo c i) ∗ tableShare m d (taskNo c i) ∗ outBlk d (taskNo c i) f) := by
  rw [line_shares, table_shares, out_blocks, ← bigSep_sep', ← bigSep_sep']
  exact tasks_split fun w => iprop(lineShare m d w ∗ tableShare m d w ∗ outBlk d w f)

/-! ## The launch element of the ghost state -/

/-- The handshakes' cells and tokens, and counters for the transfers. -/
def u₀ : UU := (initOf (K (F := F)).hsCells (K (F := F)).hsToks, 1)

/-- The launch element gives the handshakes' ghost state; the tasks need none of their own. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  have hx : (bigSep Finset.univ fun thr : Thread nD τ => bigSep Finset.univ fun q : Fin 1 => (P (F := F) m).x q thr) = (iprop(emp) : sProp 𝕄) :=
    (bigSep_congr fun _ _ => bigSep_univ_of_subsingleton (0 : Fin 1)).trans (bigSep_emp_const _)
  have hd : (bigSep Finset.univ fun _ : Dev nD => iprop(emp)) = (iprop(emp) : sProp 𝕄) := bigSep_emp_const _
  rw [hx, hd]
  unfold u₀
  iintro Hu
  ihave H := (ownU_pair (initOf (K (F := F)).hsCells (K (F := F)).hsToks) (1 : Counters)) $$ Hu
  icases H with ⟨HH, -⟩
  imodintro
  isplitl [HH]; · iexact HH
  isplitr <;> iempintro

/-! ## The tasks meet the call's obligation -/

variable [FloatOps F]

/-- The coordinates of the task of SparseCore `c`, subcore `s`. -/
def coords (c : Fin (grid0.bound 0)) (s : Fin (grid0.bound 1)) : grid0.Coords :=
  fun | 0 => c | 1 => s | ⟨_ + 2, h⟩ => absurd h (Nat.not_lt.2 (Nat.le_add_left _ _))

/-- What a tile runs when it is called: the kernel's body at its coordinates, over the whole arrays. -/
theorem defs₀_tile (c : Fin τ.nSC) (s : Fin τ.nSub) :
    defs₀ (F := F) (.scVector c s) 0 ()
      = SparseCore.onTile hcore0 hsub0 (fun c s => cc0_gather_kernel (coords c s)
          (Memref.whole main_v0_scv) (Memref.isWhole_whole _) (Memref.whole main_arg1_scv) (Memref.isWhole_whole _)
          (Memref.whole main_v1_scv) (Memref.isWhole_whole _) (Memref.whole cc0_scratch0) (Memref.isWhole_whole _)
          (Memref.whole cc0_scratch1) (Memref.isWhole_whole _) cc0_scratch2 cc0_scoped0 cc0_scoped1) ⟨⟩ c s := rfl

omit [FloatOps F] in
/-- A task's waits are all its own, which the call's obligation allows. -/
theorem own_waits {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every task meets the obligation of the call: this is `tile_body` at the task's coordinates. -/
theorem tileObl (h : InTable m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_tile]; simp only [SparseCore.onTile, hci, and_self, ↓reduceDIte]
  exact (tile_body m d (coords ⟨_, hci.1⟩ ⟨_, hci.2⟩) launchFacts h O W hO).trans (wp_mono frame _ _ fun _ => own_waits)

/-! ## `@main` -/

abbrev i' : DevRef τ sig := Proc.devRef .tc (main_arg0 : Ref sig .tc)
abbrev t' : DevRef τ sig := Proc.devRef .tc (main_arg1 : Ref sig .tc)
abbrev v' : DevRef τ sig := Proc.devRef .tc (main_v0 : Ref sig .tc)
abbrev o' : DevRef τ sig := Proc.devRef .tc (main_v1 : Ref sig .tc)
abbrev r' : DevRef τ sig := Proc.devRef .tc (main_v2 : Ref sig .tc)
abbrev opLine : HloOp τ sig (Elt F) := StableHlo.reshape main_arg0 main_v0 (rfl : (.i32 : EltTy) = .i32) shapeCasts_S4096x200_S819200
abbrev opResult : HloOp τ sig (Elt F) := StableHlo.reshape main_v1 main_v2 (rfl : (.f32 : EltTy) = .f32) shapeCasts_S819200x128_S4096x200x128

/-- The result: the gathered rows in the result's shape. -/
def result (d : Dev nD) : Buf (Elt F) (rLoc d) := shapeCast S4096x200x128 (gathered m d) shapeCasts_S819200x128_S4096x200x128

/-- The arrays of `@main`. -/
abbrev mainRefs : Finset (DevRef τ sig) := {i', t', v', o', r'}

omit [FloatOps F] in
/-- Holding the arrays of `@main` at `W` is holding each of the five. -/
theorem held_main (d : Dev nD) (W : Valuation τ sig (Elt F)) :
    (held (T d) mainRefs W : sProp 𝕄)
      = iprop((iLoc d ↦{fullShare} W i') ∗ (tLoc d ↦{fullShare} W t') ∗ (vLoc d ↦{fullShare} W v') ∗ (oLoc d ↦{fullShare} W o') ∗ rLoc d ↦{fullShare} W r') := by
  unfold held mainRefs
  rw [SparseCore.bigSep_insert' (by decide), SparseCore.bigSep_insert' (by decide), SparseCore.bigSep_insert' (by decide),
    SparseCore.bigSep_insert' (by decide), bigSep_singleton]

/-- The arrays' contents at launch, after the first reshape, and after the call. -/
def V0 (d : Dev nD) : Valuation τ sig (Elt F) := fun b => m (d, b)
def V1 (d : Dev nD) : Valuation τ sig (Elt F) := (opLine (F := F)).result (V0 m d)
def V2 (d : Dev nD) : Valuation τ sig (Elt F) := Function.update (V1 m d) o' (gathered m d)

omit [FloatOps F] in
/-- What the TensorCore holds at launch is the five arrays at the launch contents. -/
theorem unscoped_held (d : Dev nD) : (unscopedBufs d (fun b => m ((SparseCore.T d).loc b)) : sProp 𝕄) = held (T d) mainRefs (V0 m d) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton, held_main]
  rfl

omit [FloatOps F] in
/-- The first reshape changes only the line; -/
theorem V1_of_ne (d : Dev nD) (b : DevRef τ sig) (hb : b ∉ ({v'} : Finset (DevRef τ sig))) : V1 m d b = m (d, b) :=
  (opLine (F := F)).result_of_not_mem _ hb
omit [FloatOps F] in
/-- the line is then the row numbers in row-major order. -/
theorem V1_line (d : Dev nD) : V1 m d v' = line m d := StableHlo.reshape_result _ _ _ _ _ _ _
omit [FloatOps F] in
/-- The call changes only the flat output; -/
theorem V2_of_ne (d : Dev nD) (b : DevRef τ sig) (hb : b ≠ o') : V2 m d b = V1 m d b := Function.update_of_ne hb _ _
omit [FloatOps F] in
/-- the flat output is then the gathered rows. -/
theorem V2_out (d : Dev nD) : V2 m d o' = gathered m d := Function.update_self _ _ _

omit [FloatOps F] in
/-- The arrays before the call: the line at the row numbers, the others at the launch contents. -/
theorem held_before (d : Dev nD) :
    (held (T d) mainRefs ((opLine (F := F)).result (V0 m d)) : sProp 𝕄)
      = iprop((iLoc d ↦{fullShare} m (iLoc d)) ∗ (tLoc d ↦{fullShare} m (tLoc d)) ∗ (vLoc d ↦{fullShare} line m d)
          ∗ (oLoc d ↦{fullShare} m (oLoc d)) ∗ rLoc d ↦{fullShare} m (rLoc d)) := by
  show held (SparseCore.T d) mainRefs (V1 m d) = _
  rw [held_main, V1_line, V1_of_ne m d i' (by decide), V1_of_ne m d t' (by decide), V1_of_ne m d o' (by decide), V1_of_ne m d r' (by decide)]

omit [FloatOps F] in
/-- The arrays after the call. -/
theorem held_after (d : Dev nD) :
    (held (T d) mainRefs (V2 m d) : sProp 𝕄)
      = iprop((iLoc d ↦{fullShare} m (iLoc d)) ∗ (tLoc d ↦{fullShare} m (tLoc d)) ∗ (vLoc d ↦{fullShare} line m d)
          ∗ (oLoc d ↦{fullShare} gathered m d) ∗ rLoc d ↦{fullShare} m (rLoc d)) := by
  rw [held_main, V2_out, V2_of_ne m d i' (by decide), V2_of_ne m d t' (by decide), V2_of_ne m d v' (by decide), V2_of_ne m d r' (by decide),
    V1_line, V1_of_ne m d i' (by decide), V1_of_ne m d t' (by decide), V1_of_ne m d r' (by decide)]

omit [FloatOps F] in
/-- The arrays at the end: the result at the gathered rows in its shape. -/
theorem held_end (d : Dev nD) :
    (held (T d) mainRefs ((opResult (F := F)).result (V2 m d)) : sProp 𝕄)
      = iprop((iLoc d ↦{fullShare} m (iLoc d)) ∗ (tLoc d ↦{fullShare} m (tLoc d)) ∗ (vLoc d ↦{fullShare} line m d)
          ∗ (oLoc d ↦{fullShare} gathered m d) ∗ rLoc d ↦{fullShare} result m d) := by
  have hr : (opResult (F := F)).result (V2 m d) r' = result m d := (StableHlo.reshape_result _ _ _ _ _ _ _).trans (by rw [V2_out]; rfl)
  rw [held_main, hr, (opResult (F := F)).result_of_not_mem (V2 m d) (b := i') (show i' ∉ ({r'} : Finset (DevRef τ sig)) by decide),
    (opResult (F := F)).result_of_not_mem (V2 m d) (b := t') (show t' ∉ ({r'} : Finset (DevRef τ sig)) by decide),
    (opResult (F := F)).result_of_not_mem (V2 m d) (b := v') (show v' ∉ ({r'} : Finset (DevRef τ sig)) by decide),
    (opResult (F := F)).result_of_not_mem (V2 m d) (b := o') (show o' ∉ ({r'} : Finset (DevRef τ sig)) by decide),
    V2_out, V2_of_ne m d i' (by decide), V2_of_ne m d t' (by decide), V2_of_ne m d v' (by decide),
    V1_line, V1_of_ne m d i' (by decide), V1_of_ne m d t' (by decide)]

/-- Both reshapes touch only arrays of `@main`: the first one -/
theorem opLine_refs : (opLine (F := F)).bufs ⊆ mainRefs := show ({i', v'} : Finset (DevRef τ sig)) ⊆ mainRefs by decide
/-- and the last one. -/
theorem opResult_refs : (opResult (F := F)).bufs ⊆ mainRefs := show ({o', r'} : Finset (DevRef τ sig)) ⊆ mainRefs by decide

/-- What the call is given, over both SparseCores: the line, the table, the flat output at its launch contents. -/
theorem st_all (d : Dev nD) : (bigSep Finset.univ fun c : Fin ((K (F := F)).nCore 0) => (P m).st 0 d c)
    = (iprop((vLoc d ↦{fullShare} line m d) ∗ (tLoc d ↦{fullShare} m (tLoc d)) ∗ oLoc d ↦{fullShare} m (oLoc d)) : sProp 𝕄) :=
  (arrays_tasks m d (m (oLoc d))).symm
/-- What the call gives back: the line, the table, the flat output at the gathered rows. -/
theorem dn_all (d : Dev nD) : (bigSep Finset.univ fun c : Fin ((K (F := F)).nCore 0) => (P m).dn 0 d c)
    = (iprop((vLoc d ↦{fullShare} line m d) ∗ (tLoc d ↦{fullShare} m (tLoc d)) ∗ oLoc d ↦{fullShare} gathered m d) : sProp 𝕄) :=
  (arrays_tasks m d (gathered m d)).symm

/-- What `@main` keeps for the claims: the row numbers and the table at the launch contents, the result at the gathered rows. -/
abbrev FIN (d : Dev nD) : sProp 𝕄 :=
  iprop((iLoc d ↦{fullShare} m (iLoc d)) ∗ (tLoc d ↦{fullShare} m (tLoc d)) ∗ rLoc d ↦{fullShare} result m d)

/-- `@main` runs: it reshapes the row numbers, calls the kernel, reshapes the rows, and ends holding `FIN`. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opLine) (S := mainRefs) opLine_refs (V := V0 m d)) $$ [Hb Hheld]
  · isplitl [Hb] <;> iassumption
  iintro ⟨Hb, Hheld⟩
  rw [wp_ret]; imodintro
  ihave Hh := (Entails.of_eq (held_before (F := F) m d)) $$ Hheld
  icases Hh with ⟨Hi, Ht, Hv, Ho, Hr⟩
  iapply ((K (F := F)).wp_run (D (F := F)) 𝒱 (EH := EH) (P := P m) κ d 0) $$ [Hst Hi Ht Hv Ho Hr Hb Hts]
  isplitr; · iexact Hctx
  isplitl [Hst]; · iexact Hst
  isplitl [Ht Hv Ho]
  · rw [st_all]
    isplitl [Hv]; · iexact Hv
    isplitl [Ht] <;> iassumption
  iintro ⟨Hst, Hdn⟩
  ihave Hdn' := (Entails.of_eq (dn_all m d)) $$ Hdn
  icases Hdn' with ⟨Hv, Ht, Ho⟩
  iapply (wp_hlo_within 𝒱 (SparseCore.T d) none Set.univ (op := opResult) (S := mainRefs) opResult_refs (V := V2 m d)) $$ [Hb Hi Ht Hv Ho Hr]
  · isplitl [Hb]; · iexact Hb
    rw [held_after]
    isplitl [Hi]; · iexact Hi
    isplitl [Ht]; · iexact Ht
    isplitl [Hv]; · iexact Hv
    isplitl [Ho] <;> iassumption
  iintro ⟨Hb, Hheld⟩
  ihave Hh := (Entails.of_eq (held_end (F := F) m d)) $$ Hheld
  icases Hh with ⟨Hi, Ht, -, -, Hr⟩
  rw [wp_ret]; imodintro; imodintro
  isplitl [Hst]; · iexact Hst
  isplitr [Hb Hts]
  · isplitl [Hi]; · iexact Hi
    isplitl [Ht] <;> iassumption
  isplitl [Hb] <;> iassumption

/-! ## The run -/

/-- What memory holds at the end on device `d`. -/
def fq (d : Dev nD) (s' : Phys nD τ sig (Elt F)) : Prop :=
  s'.mem.mem (rLoc d) = result m d ∧ s'.mem.mem (iLoc d) = m (iLoc d) ∧ s'.mem.mem (tLoc d) = m (tLoc d)

set_option maxRecDepth 16384 in
/-- A final state of which `FIN` holds has the result and the arguments in memory as `fq` says. -/
theorem hfin (d : Dev nD) (s' : Phys nD τ sig (Elt F)) : iprop(FIN m d ∗ SI s') ⊢ (⌜fq m d s'⌝ : sProp 𝕄) := by
  iintro ⟨⟨Hi, Ht, Hr⟩, HSI⟩
  ihave H := (persistent_entails_right (SI_pointsTo_agree (st := s') (ℓ := iLoc d) (I := Finset.univ) (q := fullShare) (f := m (iLoc d)))) $$ [HSI Hi]
  · isplitl [HSI] <;> iassumption
  icases H with ⟨%hi, HSI, -⟩
  ihave H := (persistent_entails_right (SI_pointsTo_agree (st := s') (ℓ := tLoc d) (I := Finset.univ) (q := fullShare) (f := m (tLoc d)))) $$ [HSI Ht]
  · isplitl [HSI] <;> iassumption
  icases H with ⟨%ht, HSI, -⟩
  ihave H := (SI_pointsTo_agree (st := s') (ℓ := rLoc d) (I := Finset.univ) (q := fullShare) (f := result m d)) $$ [HSI Hr]
  · isplitl [HSI] <;> iassumption
  icases H with %hr
  ipureintro
  exact ⟨funext fun j => hr j (Finset.mem_univ j), funext fun j => hi j (Finset.mem_univ j), funext fun j => ht j (Finset.mem_univ j)⟩

/-- At the run's end every device's result is at the gathered rows, the row numbers and the table are at their launch
    contents, and every semaphore is at zero. -/
def QC : PUnit × MemSt nD τ sig (Elt F) → Prop := fun r =>
  (∀ c : Dev nD, r.2.mem (rLoc c) = result m c ∧ r.2.mem (iLoc c) = m (iLoc c) ∧ r.2.mem (tLoc c) = m (tLoc c)) ∧ r.2.sem = fun _ => 0

/-- Every run from row numbers in the table ends, and ends so. -/
theorem run_main [∀ e, Nonempty (Elt F e)] (h : InTable m) :
    θ_run (Cert.Kernel.defs (F := F)) (Cert.Kernel.threads (F := F)) ⟨m, fun _ => 0, ρ⟩ (QC m) :=
  SparseCore.Cfg.θ_run_sc_quiescent (K := K (F := F)) (D := D (F := F)) (𝒱 := 𝒱) (EH := EH) (P := P m) (A := ∅) launchFacts v₀
    (fun q hq => match q with | 0 => nomatch hq)
    (fun q _ => match q with | 0 => tileObl m h)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.KernelRun

end
-- ==== Proof.IdealRun.lean ====
/-
  The run of `KernelIdeal`. The idealization rewrote no operation, so `KernelIdeal` is the program of `Kernel` with its
  floats read as extended reals; `KernelRun.run_main` is stated at every float instance, and its statement at that one
  is the statement about `KernelIdeal`.
-/
module

public import proofs.«01_k».proof.Proof.KernelRun
public import proofs.«01_k».proof.Proof.Gen.KernelIdeal

@[expose] public section

noncomputable section

namespace Cert.Proof.IdealRun

open Idealize.ShloMosaic Idealize.SL.Sem
open Cert.KernelIdeal Cert.KernelIdeal.Gen

variable (m : (ℓ : Loc nD τ sig) → Buf (Elt Ideal) ℓ) (ρ : Dev nD → PrngReg)

/-- What a run of `KernelIdeal` ends in: the result at the gathered rows, the arguments as at the launch, every
    semaphore at zero. -/
def Post : PUnit × MemSt nD τ sig (Elt Ideal) → Prop := fun r =>
  (∀ c : Dev nD, r.2.mem ((c.tc : Thread nD τ).loc main_v2) = KernelRun.result (F := Ideal) m c
    ∧ r.2.mem ((c.tc : Thread nD τ).loc main_arg0) = m ((c.tc : Thread nD τ).loc main_arg0)
    ∧ r.2.mem ((c.tc : Thread nD τ).loc main_arg1) = m ((c.tc : Thread nD τ).loc main_arg1)) ∧ r.2.sem = fun _ => 0

/-- `KernelIdeal` runs from every launch memory whose row numbers name rows of the table, and ends in `Post`. -/
theorem run_main (h : KernelRun.InTable (F := Ideal) m) :
    θ_run (Cert.KernelIdeal.defs (F := Ideal)) (Cert.KernelIdeal.threads (F := Ideal)) ⟨m, fun _ => 0, ρ⟩ (Post m) :=
  KernelRun.run_main (F := Ideal) m ρ h

end Cert.Proof.IdealRun

end
-- ==== Proof.Lookup.lean ====
/-
  The lookup as mathematics: `lookup ids table` holds, at `(b, s, k)`, lane `k` of the table's row that `ids (b, s)`
  names. Three facts about it, over one array of row numbers all below 50000:

  * the precondition `in_table` says exactly that every row number is below 50000 (`in_table_lt`);
  * the kernel's result is the lookup (`result_eq`);
  * the reference's term is the lookup (`taken_eq`): its wrap of negative numbers leaves every number as it is, its
    mask is all ones, and its gather reads the named row.
-/
module

public import proofs.«01_k».proof.Proof.KernelRun
public import proofs.«01_k».proof.Proof.Gen.ReferenceIdeal
public import proofs.«01_k».proof.Proof.Gen.Pre_in_table
public import Idealize.ShloMosaic.Lib.ReduceAll

@[expose] public section

noncomputable section

namespace Cert.Proof.Lookup

open Idealize.ShloMosaic
open Cert.Proof.KernelRun (tableIx lineIx rowOf line gathered result InTable)
open Cert.ReferenceIdeal Cert.ReferenceIdeal.Gen

/-- The index of the row numbers at line `b`, position `s`. -/
def idIx (b : Fin 4096) (s : Fin 200) : S4096x200.Idx :=
  fun | 0 => b | 1 => s | ⟨_ + 2, h⟩ => absurd h (Nat.not_lt.2 (Nat.le_add_left _ _))

/-- The embedding lookup: element `(b, s, k)` is lane `k` of the table's row named by `ids (b, s)`. -/
def lookup {α : Type} (ids : IVec S4096x200 32) (table : S50000x128.Idx → α) : S4096x200x128.Idx → α :=
  fun j => table (tableIx (rowOf (ids (idIx (j 0) (j 1)))) (j 2))

/-! ## Words below 50000 -/

/-- A word that is at least 0 and below 50000 as a signed number is below 50000 as an unsigned one. -/
theorem toNat_lt {v : BitVec 32} (h0 : (0#32).toInt ≤ v.toInt) (h1 : v.toInt < (50000#32).toInt) : v.toNat < 50000 := by
  have e0 : (0#32).toInt = 0 := by decide
  have e1 : (50000#32).toInt = 50000 := by decide
  rw [e0] at h0
  rw [e1] at h1
  rw [BitVec.toInt_eq_toNat_cond] at h0 h1
  have := v.isLt
  split at h0 <;> omega

/-- A word below 50000 reads the same signed as unsigned. -/
theorem toInt_of_lt {v : BitVec 32} (h : v.toNat < 50000) : v.toInt = v.toNat := by
  rw [BitVec.toInt_eq_toNat_cond]; split <;> omega

/-- A word below 50000 is not negative. -/
theorem slt_of_lt {v : BitVec 32} (h : v.toNat < 50000) : IntOp.cmpi .slt v 0#32 ≠ 1#1 := by
  intro e
  have e0 : (0#32).toInt = 0 := by decide
  rw [IntOp.cmpi_slt, toInt_of_lt h, e0] at e
  omega

/-- A word below 50000 passes the reference's range test. -/
theorem range_of_lt {v : BitVec 32} (h : v.toNat < 50000) :
    IntOp.andi (IntOp.cmpi .sge v 0#32) (IntOp.cmpi .sle v 49999#32) = 1#1 := by
  have e0 : (0#32).toInt = 0 := by decide
  have e1 : (49999#32).toInt = 49999 := by decide
  rw [IntOp.andi_eq_one, IntOp.cmpi_sge, IntOp.cmpi_sle, toInt_of_lt h, e0, e1]
  omega

/-! ## The precondition -/

/-- Where `in_table` reads one, every row number is below 50000. -/
theorem in_table_lt {F : FTy → Type} [FloatOps F] (ids : IVec S4096x200 32) (table : FVec F S50000x128 .f32)
    (h : Cert.Pre_in_table.fn (F := F) ids table = fun _ => 1#1) (j : S4096x200.Idx) : (ids j).toNat < 50000 := by
  haveI : Subsingleton Cert.Pre_in_table.S_.Idx := ⟨fun a b => funext fun i => i.elim0⟩
  have e := Host.reduce_andi_all _ _ _ _ _ (congrFun h (fun i => i.elim0)) j
  obtain ⟨a, b⟩ := IntOp.andi_eq_one.1 e
  exact toNat_lt (IntOp.cmpi_sge.1 a) (IntOp.cmpi_slt.1 b)

/-! ## The kernel's result -/

/-- The kernel's result is the lookup of its row numbers in its table: row `200 b + s` of the flat output is row
    `(b, s)` of the result, and position `200 b + s` of the line is `ids (b, s)`. -/
theorem result_eq {F : FTy → Type} (m : (ℓ : Loc Cert.Kernel.nD Cert.Kernel.τ Cert.Kernel.sig) → Buf (Elt F) ℓ)
    (d : Dev Cert.Kernel.nD) :
    result m d = lookup (α := F .f32) (m (KernelRun.iLoc d)) (m (KernelRun.tLoc d)) := by
  funext (j : S4096x200x128.Idx)
  have h0 : (j 0).val < 4096 := (j 0).isLt
  have h1 : (j 1).val < 200 := (j 1).isLt
  let p : Fin 819200 := ⟨(j 0).val * 200 + (j 1).val, by omega⟩
  let k : Cert.Kernel.S819200x128.Idx :=
    fun | 0 => p | 1 => j 2 | ⟨_ + 2, h⟩ => absurd h (Nat.not_lt.2 (Nat.le_add_left _ _))
  have e1 : result m d j = gathered m d k := by
    refine shapeCast_apply _ _ j k ?_
    rw [Shape.rowMajor_val_two, Shape.rowMajor_val_three]
    rfl
  have e2 : line m d (lineIx p) = m (KernelRun.iLoc d) (idIx (j 0) (j 1)) := by
    refine shapeCast_apply _ _ (lineIx p) (idIx (j 0) (j 1)) ?_
    rw [Shape.rowMajor_val_one, Shape.rowMajor_val_two]
    rfl
  rw [e1]
  show m (KernelRun.tLoc d) (tableIx (rowOf (line m d (lineIx p))) (j 2)) = _
  rw [e2]
  rfl

/-! ## The reference's term -/

section
variable (ids : IVec S4096x200 32)

/-- The reference's wrapped row numbers: 50000 is added to a negative one. -/
def wrapped : IVec S4096x200 32 :=
  select (cmpi .slt ids (broadcastInDim S4096x200 ![] bcast_S_S4096x200 (constantI S_ 32 0#32)))
    (addi ids (broadcastInDim S4096x200 ![] bcast_S_S4096x200 (constantI S_ 32 50000#32))) ids

/-- The wrapped row numbers as the gather's start indices. -/
def starts : IVec S4096x200x1 32 := broadcastInDim S4096x200x1 ![0, 1] bcast_S4096x200_S4096x200x1_0_1 (wrapped ids)

/-- The reference's mask: which wrapped row numbers lie in the table. -/
def mask : IVec S4096x200 1 :=
  Host.reduce IntOp.andi
    (andi (cmpi .sge (starts ids) (broadcastInDim S4096x200x1 ![] bcast_S_S4096x200x1 (constantI S_ 32 0#32)))
      (cmpi .sle (starts ids) (broadcastInDim S4096x200x1 ![0, 1, 2] bcast_S1x1x1_S4096x200x1_0_1_2
        (broadcastInDim S1x1x1 ![2] bcast_S1_S1x1x1_2 (constantI S1 32 49999#32)))))
    (constantI S_ 1 1#1) reducesTo_S4096x200x1_S4096x200_d2 h_S_

/-- The reference's result: the gathered element where the mask is one, `0x7FC00000` elsewhere. -/
def taken {F : FTy → Type} [FloatOps F] (table : FVec F S50000x128 .f32) : FVec F S4096x200x128 .f32 :=
  select (broadcastInDim S4096x200x128 ![0, 1] bcast_S4096x200_S4096x200x128_0_1 (mask ids))
    (Host.gather gather_S50000x128_S4096x200x1_S4096x200x128_2_0_n_n_0_2_1128 table (starts ids))
    (broadcastInDim S4096x200x128 ![] bcast_S_S4096x200x128 (constant S_ .f32 0x7FC00000#32))

/-- A selection whose condition is one at `j` reads its first operand there. -/
theorem select_one {s : Shape} {α : Type} {c : IVec s 1} {x y : s.Idx → α} {j : s.Idx} (hc : c j = 1#1) : select c x y j = x j :=
  if_pos hc

variable {ids} (h : ∀ j, (ids j).toNat < 50000)
include h

/-- No row number is negative, so none is wrapped. -/
theorem wrapped_eq : wrapped ids = ids := by
  funext j
  exact if_neg (slt_of_lt (h j))

/-- Every wrapped row number lies in the table: the mask is one everywhere. -/
theorem mask_eq (j : S4096x200.Idx) : mask ids j = 1#1 := by
  unfold mask starts
  rw [wrapped_eq h]
  exact Host.reduce_andi_one _ _ _ _ j rfl fun i => range_of_lt (h _)

omit h in
/-- The start index that result element `j` reads is the one at `(j 0, j 1)`. -/
theorem starts_at (j : S4096x200x128.Idx)
    (c : Fin (gather_S50000x128_S4096x200x1_S4096x200x128_2_0_n_n_0_2_1128.startIndexMap).length) :
    broadcastInDim S4096x200x1 ![0, 1] bcast_S4096x200_S4096x200x1_0_1 ids
        (gather_S50000x128_S4096x200x1_S4096x200x128_2_0_n_n_0_2_1128.siIdx j c) = ids (idIx (j 0) (j 1)) := by
  refine congrArg ids (funext fun a => Fin.ext ?_)
  match a with
  | 0 => rfl
  | 1 => rfl

/-- The gather reads lane `j 2` of the row named at `(j 0, j 1)`. -/
theorem gather_eq {α : Type} (table : S50000x128.Idx → α) (j : S4096x200x128.Idx) :
    Host.gather gather_S50000x128_S4096x200x1_S4096x200x128_2_0_n_n_0_2_1128 table
        (broadcastInDim S4096x200x1 ![0, 1] bcast_S4096x200_S4096x200x1_0_1 ids) j = lookup ids table j := by
  refine congrArg table (funext fun a => Fin.ext ?_)
  match a with
  | 0 =>
    have hb : (0 : Fin 2) ∉ gather_S50000x128_S4096x200x1_S4096x200x128_2_0_n_n_0_2_1128.operandBatchingDims := by decide
    have hk : (0 : Fin 2) ∉ gather_S50000x128_S4096x200x1_S4096x200x128_2_0_n_n_0_2_1128.sKept := by decide
    have hm : (0 : Fin 2) ∈ gather_S50000x128_S4096x200x1_S4096x200x128_2_0_n_n_0_2_1128.startIndexMap := by decide
    show GatherDims.start _ _ _ _ + GatherDims.batchCoord _ _ _ + GatherDims.offCoord _ _ _ = _
    rw [GatherDims.batchCoord_eq_zero _ _ _ hb, GatherDims.offCoord_eq_zero _ _ _ hk, GatherDims.start, dif_pos hm]
    refine (congrArg (fun v : BitVec 32 => min v.toInt.toNat (50000 - 1) + 0 + 0) (starts_at (ids := ids) j _)).trans ?_
    have hv := h (idIx (j 0) (j 1))
    show min (ids (idIx (j 0) (j 1))).toInt.toNat (50000 - 1) = (ids (idIx (j 0) (j 1))).toNat % 50000
    rw [toInt_of_lt hv, Nat.mod_eq_of_lt hv, Int.toNat_natCast]
    omega
  | 1 =>
    have hb : (1 : Fin 2) ∉ gather_S50000x128_S4096x200x1_S4096x200x128_2_0_n_n_0_2_1128.operandBatchingDims := by decide
    have hk : (1 : Fin 2) ∈ gather_S50000x128_S4096x200x1_S4096x200x128_2_0_n_n_0_2_1128.sKept := by decide
    have hm : (1 : Fin 2) ∉ gather_S50000x128_S4096x200x1_S4096x200x128_2_0_n_n_0_2_1128.startIndexMap := by decide
    show GatherDims.start _ _ _ _ + GatherDims.batchCoord _ _ _ + GatherDims.offCoord _ _ _ = _
    rw [GatherDims.batchCoord_eq_zero _ _ _ hb, GatherDims.start, dif_neg hm, GatherDims.offCoord, dif_pos hk, Nat.add_zero, Nat.zero_add]
    rfl

/-- The reference's result is the lookup. -/
theorem taken_eq {F : FTy → Type} [FloatOps F] (table : FVec F S50000x128 .f32) : taken ids table = lookup ids table := by
  funext j
  have hm : broadcastInDim S4096x200x128 ![0, 1] bcast_S4096x200_S4096x200x128_0_1 (mask ids) j = 1#1 := by
    unfold broadcastInDim
    exact mask_eq h _
  unfold taken
  rw [select_one hm]
  unfold starts
  rw [wrapped_eq h]
  exact gather_eq h table j

end

end Cert.Proof.Lookup

end
-- ==== Proof.lean ====
/-
  The proof of `Cert.Claim` (proofs.«01_k».proof.Defs). The kernel's run, at every float instance, is
  `KernelRun.run_main` (Proof/KernelTile.lean for one task, Proof/KernelRun.lean for the launch); Proof/IdealRun.lean
  reads it as `KernelIdeal`'s; the reference's run is generated; Proof/Lookup.lean says what the precondition gives and
  that both results are the same lookup. This file puts the five claims together.
-/
module

public import proofs.«01_k».proof.Defs
public import proofs.«01_k».proof.Proof.KernelRun
public import proofs.«01_k».proof.Proof.IdealRun
public import proofs.«01_k».proof.Proof.Lookup
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_in_table
public import Idealize.ShloMosaic.Adequacy
public import Idealize.ShloMosaic.Init

@[expose] public section

noncomputable section

namespace Cert.Proof

open Idealize.ShloMosaic Idealize.SL.Sem

/-- Under `in_table`, the row numbers of `Kernel`'s launch memory name rows of the table. -/
theorem in_table_kernel (m : (ℓ : Loc Cert.Kernel.nD Cert.Kernel.τ Cert.Kernel.sig) → Buf (Elt Bits) ℓ)
    (h : Cert.Pre_Kernel (hPre_in_table := Cert.Pre_in_table.Gen.facts) m) : KernelRun.InTable (F := Bits) m :=
  fun d j => Lookup.in_table_lt _ _ (h d) j

/-- Under `in_table`, the row numbers of `KernelIdeal`'s launch memory name rows of the table. -/
theorem in_table_ideal (m : (ℓ : Loc Cert.KernelIdeal.nD Cert.KernelIdeal.τ Cert.KernelIdeal.sig) → Buf (Elt Ideal) ℓ)
    (h : Cert.Pre_KernelIdeal (hPre_in_table := Cert.Pre_in_table.Gen.facts) m) : KernelRun.InTable (F := Ideal) m :=
  fun d j => Lookup.in_table_lt _ _ (h d) j

/-- `Kernel` runs without fault, leaves its arguments unchanged and every semaphore at zero. -/
theorem frame_kernel :
    Cert.quiescent_Kernel (hKernel := Cert.Kernel.Gen.facts) (hPre_in_table := Cert.Pre_in_table.Gen.facts) := fun m g h =>
  (θ_run Cert.Kernel.defs _ _).mono (fun _ q => ⟨fun c => (q.1 c).2, q.2⟩)
    (KernelRun.run_main (F := Bits) m g (in_table_kernel m h))

/-- `KernelIdeal` runs without fault, leaves its arguments unchanged and every semaphore at zero. -/
theorem frame_ideal :
    Cert.quiescent_KernelIdeal (hKernelIdeal := Cert.KernelIdeal.Gen.facts) (hPre_in_table := Cert.Pre_in_table.Gen.facts) :=
  fun m g h =>
    (θ_run Cert.KernelIdeal.defs _ _).mono (fun _ q => ⟨fun c => (q.1 c).2, q.2⟩)
      (IdealRun.run_main m g (in_table_ideal m h))

/-- `ReferenceIdeal` runs without fault and leaves its arguments unchanged; it declares no semaphore. -/
theorem frame_reference :
    Cert.quiescent_ReferenceIdeal (hReferenceIdeal := Cert.ReferenceIdeal.Gen.facts)
      (hPre_in_table := Cert.Pre_in_table.Gen.facts) := fun m g _ =>
  (θ_run Cert.ReferenceIdeal.defs _ _).mono (fun r q => ⟨fun c => (q c).2, sem_eq_zero_of_no_sems (by decide) r.2⟩)
    (Cert.ReferenceIdeal.Value.run (F := Ideal) m g)

/-- From memories that agree on the arguments, `KernelIdeal` and `ReferenceIdeal` both run and end with the same result:
    the lookup of the row numbers in the table. -/
theorem same_result :
    Cert.algebraic_KernelIdeal_ReferenceIdeal (hKernelIdeal := Cert.KernelIdeal.Gen.facts)
      (hReferenceIdeal := Cert.ReferenceIdeal.Gen.facts) (hPre_in_table := Cert.Pre_in_table.Gen.facts) :=
  fun m g m' g' h he => by
    refine ⟨fun c => KernelRun.result (F := Ideal) m c, ?_, ?_⟩
    · exact (θ_run Cert.KernelIdeal.defs _ _).mono (fun _ q => q.1) (IdealRun.run_main m g (in_table_ideal m h))
    · refine (θ_run Cert.ReferenceIdeal.defs _ _).mono (fun r q c => ⟨?_, (q c).2⟩)
        (Cert.ReferenceIdeal.Value.run (F := Ideal) m' g')
      rw [(q c).1, (he c).1, (he c).2]
      have e := Lookup.taken_eq (F := Ideal) (ids := m ((c.tc : Thread Cert.KernelIdeal.nD Cert.KernelIdeal.τ).loc Cert.KernelIdeal.main_arg0))
        (in_table_ideal m h c) (m ((c.tc : Thread Cert.KernelIdeal.nD Cert.KernelIdeal.τ).loc Cert.KernelIdeal.main_arg1))
      unfold Lookup.taken Lookup.mask Lookup.starts Lookup.wrapped at e
      exact e.trans (Lookup.result_eq (F := Ideal) m c).symm

/-- The certificate's claims. -/
theorem claim : Cert.Claim :=
  ⟨Cert.Kernel.Gen.facts, Cert.KernelIdeal.Gen.facts, Cert.ReferenceIdeal.Gen.facts, Cert.Pre_in_table.Gen.facts,
    frame_kernel, frame_ideal, frame_reference, trivial, same_result⟩

end Cert.Proof

end
